-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x16384 : Shape := ⟨2, ![4096, 16384]⟩
abbrev S4096x512 : Shape := ⟨2, ![4096, 512]⟩
abbrev S4096x1 : Shape := ⟨2, ![4096, 1]⟩
abbrev S512x512 : Shape := ⟨2, ![512, 512]⟩

abbrev nBuf : Space → Nat
  | .hbm => 2
  | .vmem => 6
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .local _ .vmem, ⟨0, _⟩ => ⟨S4096x512, .f32⟩
  | .local _ .vmem, ⟨1, _⟩ => ⟨S4096x512, .f32⟩
  | .local _ .vmem, ⟨2, _⟩ => ⟨S4096x512, .f32⟩
  | .local _ .vmem, ⟨3, _⟩ => ⟨S4096x512, .f32⟩
  | .local _ .vmem, ⟨4, _⟩ => ⟨S4096x1, .f32⟩
  | .local _ .vmem, ⟨5, _⟩ => ⟨S512x512, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S4096x16384 : Shape := ⟨2, ![4096, 16384]⟩
abbrev S_ : Shape := ⟨0, ![]⟩
abbrev S4096x1 : Shape := ⟨2, ![4096, 1]⟩
abbrev S4096x16383 : Shape := ⟨2, ![4096, 16383]⟩

abbrev nBuf : Space → Nat
  | .hbm => 8
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S_, .f32⟩
  | .hbm, ⟨2, _⟩ => ⟨S_, .f32⟩
  | .hbm, ⟨3, _⟩ => ⟨S4096x16384, .f32⟩
  | .hbm, ⟨4, _⟩ => ⟨S_, .f32⟩
  | .hbm, ⟨5, _⟩ => ⟨S4096x1, .f32⟩
  | .hbm, ⟨6, _⟩ => ⟨S4096x16383, .f32⟩
  | .hbm, ⟨7, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Scan.Prefix.lean ====
/-
  Prefix sums of a sequence of extended reals, and the three places where a program's sum is one of them: a sum against
  the strictly upper triangular matrix of ones, the sum of a prefix that ends inside a block, and the sum over a window
  that reaches back past the start of the sequence.
-/
module

public import Idealize.ShloMosaic.Lib.ValueIdxCore
public import Idealize.ShloMosaic.Lib.Pointwise

@[expose] public section

noncomputable section

namespace Cert.Scan

open Idealize.ShloMosaic

/-- The sum of the first `n` terms of `f`. -/
def psum (f : ℕ → EReal) (n : ℕ) : EReal := ∑ k ∈ Finset.range n, f k

/-- The sum of no terms. -/
theorem psum_zero (f : ℕ → EReal) : psum f 0 = 0 := rfl

/-- One more term. -/
theorem psum_succ (f : ℕ → EReal) (n : ℕ) : psum f (n + 1) = psum f n + f n := Finset.sum_range_succ f n

/-- The first `a + b` terms are the first `a`, then `b` terms from position `a` on. -/
theorem psum_add (f : ℕ → EReal) (a b : ℕ) : psum f (a + b) = psum f a + psum (fun k => f (a + k)) b :=
  Finset.sum_range_add f a b

/-- The prefix sum reads its sequence only below its length. -/
theorem psum_congr {f g : ℕ → EReal} {n : ℕ} (h : ∀ k < n, f k = g k) : psum f n = psum g n :=
  Finset.sum_congr rfl fun k hk => h k (Finset.mem_range.mp hk)

/-- A sum over `n` positions against the `j`-th column of the strictly upper triangular matrix of ones is the sum of
    the terms before position `j`. Nothing is asked of the terms: an infinite one times zero is zero. -/
theorem sum_mul_triangle (f : ℕ → EReal) {n : ℕ} (j : Fin n) :
    ∑ k : Fin n, f k.val * (if k.val < j.val then 1 else 0) = psum f j.val := by
  have hj := j.isLt
  rw [Fin.sum_univ_eq_sum_range (fun k => f k * (if k < j.val then 1 else 0)) n, psum]
  simp only [mul_ite, mul_one, mul_zero]
  rw [← Finset.sum_filter]
  refine Finset.sum_congr (Finset.ext fun k => ?_) fun _ _ => rfl
  simp only [Finset.mem_filter, Finset.mem_range]
  omega

/-- A window of `w + 1` positions that ends at position `j ≤ w`, its positions before the start of the sequence counted
    as zero, sums the first `j + 1` terms. -/
theorem sum_window_psum (f : ℕ → EReal) {w j : ℕ} (hj : j ≤ w) :
    ∑ n ∈ Finset.range (w + 1), (if w ≤ j + n then f (j + n - w) else 0) = psum f (j + 1) := by
  rw [show w + 1 = (w - j) + (j + 1) by omega, Finset.sum_range_add]
  have hz : ∑ n ∈ Finset.range (w - j), (if w ≤ j + n then f (j + n - w) else 0) = 0 :=
    Finset.sum_eq_zero fun n hn => if_neg (by have := Finset.mem_range.mp hn; omega)
  rw [hz, zero_add]
  refine Finset.sum_congr rfl fun n _ => ?_
  rw [if_pos (by omega)]
  congr 1
  omega

/-- Row `r` of a matrix as a sequence, zero past the row's end. -/
def row {R N : ℕ} (x : (⟨2, ![R, N]⟩ : Shape).Idx → EReal) (r : Fin R) (k : ℕ) : EReal :=
  if h : k < N then x (ix2 r ⟨k, h⟩) else 0

/-- Inside the row the sequence is the row. -/
theorem row_of_lt {R N : ℕ} (x : (⟨2, ![R, N]⟩ : Shape).Idx → EReal) (r : Fin R) {k : ℕ} (h : k < N) :
    row x r k = x (ix2 r ⟨k, h⟩) := dif_pos h

end Cert.Scan

end
-- ==== Proof.Scan.Body.lean ====
/-
  What the kernel's body leaves at one grid point. The first point stores a zero running total and the strictly upper
  triangular matrix of ones before it reads them; every other point reads what the point before left. Then the payloads
  entry by entry at the ideal values: the product with the triangle is the prefix sum inside the block, the output block
  is that plus the running total, and the new total adds the whole block's row.
-/
module

public import proofs.«01_k».proof.Proof.Gen.KernelIdeal.Value
public import proofs.«01_k».proof.Proof.Scan.Prefix
public import Idealize.ShloMosaic.Lib.MatmulPlain
public import Idealize.ShloMosaic.Lib.Tactic
public import Idealize.ShloMosaic.Lib.WordCmp

@[expose] public section

noncomputable section

namespace Cert.Scan

open Idealize.ShloMosaic Idealize.ShloMosaic.TcCoe Idealize.SL.Sem
open Cert.KernelIdeal Cert.KernelIdeal.Gen

section Named

variable {F : FTy → Type} [FloatOps F]

/-- The offsets `(0, 0)` are zero along every axis. -/
theorem origin_eq : (![0, 0] : Fin 2 → Nat) = fun _ => 0 := funext (Fin.forall_fin_two.mpr ⟨rfl, rfl⟩)

variable (c : Dev nD) (i : grid0.Coords) (a2 : Memref sig .tc .vmem S4096x512 .f32) (h2 : a2.IsWhole)
  (a3 : Memref sig .tc .vmem S4096x512 .f32) (h3 : a3.IsWhole) (a4 : Memref sig .tc .vmem S4096x1 .f32) (h4 : a4.IsWhole)
  (a5 : Memref sig .tc .vmem S512x512 .f32) (h5 : a5.IsWhole)

/-- A later point's output block: the product plus the running total it was handed. -/
theorem out_later (hc : ¬cond0_0 i) (x : Vec F S4096x512 .f32) (s : Vec F S4096x1 .f32) (T : Vec F S512x512 .f32) :
    out0_B_1 c i a2 h2 a3 h3 a4 h4 a5 h5 hc x s T = k0_pay4 x T s := by
  unfold out0_B_1
  rw [View.read_writes_eq_canon _ _ _ (cover0_B_1 c i a2 h2 a3 h3 a4 h4 a5 h5 hc x s T)]
  unfold kernelRun0_B
  dsimp only
  rw [View.canon_unit_zero origin_eq]
  simp only [View.readAt_eq_ld, h2.read_unread, h4.read_unread, h5.read_unread, View.ld_unit_zero (S := S4096x512) origin_eq,
    View.ld_unit_zero (S := S4096x1) origin_eq, View.ld_unit_zero (S := S512x512) origin_eq, shapeCast_self]

/-- A later point's running total: the old one, the last column of the product, the last column of the block. -/
theorem total_later (hc : ¬cond0_0 i) (x : Vec F S4096x512 .f32) (s : Vec F S4096x1 .f32) (T : Vec F S512x512 .f32) :
    sout0_B_0 c i a2 h2 a3 h3 a4 h4 a5 h5 hc x s T = k0_pay5 x T s := by
  unfold sout0_B_0
  rw [View.read_writes_eq_canon _ _ _ (scover0_B_0 c i a2 h2 a3 h3 a4 h4 a5 h5 hc x s T)]
  unfold kernelRun0_B
  dsimp only
  rw [View.canon_unit_zero origin_eq]
  simp only [View.readAt_eq_ld, h2.read_unread, h4.read_unread, h5.read_unread, View.ld_unit_zero (S := S4096x512) origin_eq,
    View.ld_unit_zero (S := S4096x1) origin_eq, View.ld_unit_zero (S := S512x512) origin_eq, shapeCast_self]

/-- The first point's output block: the product with the triangle it just stored, plus the zero total. -/
theorem out_first (hc : cond0_0 i) (x : Vec F S4096x512 .f32) :
    out0_A_1 c i a2 h2 a3 h3 a4 h4 a5 h5 hc x = k0_pay4 x k0_pay2 k0_pay1 := by
  unfold out0_A_1
  rw [View.read_writes_eq_canon _ _ _ (cover0_A_1 c i a2 h2 a3 h3 a4 h4 a5 h5 hc x)]
  unfold kernelRun0_A
  dsimp only
  sl_unfold_words
  rw [View.canon_unit_zero origin_eq]
  simp only [View.readCov_unit_zero (S := S4096x1) _ origin_eq, View.readCov_unit_zero (S := S512x512) _ origin_eq,
    View.readAt_eq_ld, h2.read_unread, View.ld_unit_zero (S := S4096x512) origin_eq, shapeCast_self]

/-- The first point's running total. -/
theorem total_first (hc : cond0_0 i) (x : Vec F S4096x512 .f32) :
    sout0_A_0 c i a2 h2 a3 h3 a4 h4 a5 h5 hc x = k0_pay5 x k0_pay2 k0_pay1 := by
  unfold sout0_A_0
  rw [View.read_writes_eq_canon _ _ _ (scover0_A_0 c i a2 h2 a3 h3 a4 h4 a5 h5 hc x)]
  unfold kernelRun0_A
  dsimp only
  sl_unfold_words
  rw [View.canon_cons_unit_zero (S := S4096x1) origin_eq]
  simp only [View.readCov_unit_zero (S := S4096x1) _ origin_eq, View.readCov_unit_zero (S := S512x512) _ origin_eq,
    View.readAt_eq_ld, h2.read_unread, View.ld_unit_zero (S := S4096x512) origin_eq, shapeCast_self]

/-- The first point leaves the triangle in its scratch. -/
theorem triangle_first (hc : cond0_0 i) (x : Vec F S4096x512 .f32) :
    sout0_A_1 c i a2 h2 a3 h3 a4 h4 a5 h5 hc x = k0_pay2 := by
  unfold sout0_A_1
  rw [View.read_writes_eq_canon _ _ _ (scover0_A_1 c i a2 h2 a3 h3 a4 h4 a5 h5 hc x)]
  unfold kernelRun0_A
  dsimp only
  sl_unfold_words
  rw [View.canon_unit_zero origin_eq]

end Named

section Entries

/-- The zero total at an entry. -/
theorem zero_total (r : Fin 4096) : k0_pay1 (F := Ideal) (ix2 r (0 : Fin 1)) = 0 := by
  pointwise [k0_pay1]

/-- The stored matrix at an entry: one above the diagonal, zero elsewhere. -/
theorem triangle_entry (k j : Fin 512) :
    k0_pay2 (F := Ideal) (ix2 k j) = if k.val < j.val then 1 else 0 := by
  pointwise [k0_pay2]
  have hk : k.val < 2 ^ (32 - 1) := by have := k.isLt; omega
  have hj : j.val < 2 ^ (32 - 1) := by have := j.isLt; omega
  rw [WordCmp.cmpi_slt_ofNat hk hj]
  refine (Ideal.scalar_sitofp_def _).trans ?_
  by_cases h : k.val < j.val
  · simp [h]
  · simp [h]

/-- The product with a matrix `T`, at an entry. -/
theorem product_entry (x : Vec Ideal S4096x512 .f32) (T : Vec Ideal S512x512 .f32) (r : Fin 4096) (j : Fin 512) :
    k0_pay3 (F := Ideal) x T (ix2 r j) = ∑ k : Fin 512, x (ix2 r k) * T (ix2 k j) := by
  pointwise [k0_pay3]

/-- The product with the triangle, at an entry: the sum of the row's entries before column `j`. -/
theorem product_triangle (x : Vec Ideal S4096x512 .f32) (r : Fin 4096) (j : Fin 512) :
    k0_pay3 (F := Ideal) x (k0_pay2 (F := Ideal)) (ix2 r j) = psum (row x r) j.val := by
  rw [product_entry, ← sum_mul_triangle]
  refine Finset.sum_congr rfl fun k _ => ?_
  rw [triangle_entry, row_of_lt x r k.isLt]

/-- The output block at an entry, over a running total `s`. -/
theorem out_entry (x : Vec Ideal S4096x512 .f32) (s : Vec Ideal S4096x1 .f32) (r : Fin 4096) (j : Fin 512) :
    k0_pay4 (F := Ideal) x (k0_pay2 (F := Ideal)) s (ix2 r j) = s (ix2 r (0 : Fin 1)) + psum (row x r) j.val := by
  rw [← product_triangle]
  pointwise [k0_pay4]

/-- The new running total at an entry: the old one plus the block's whole row. -/
theorem total_entry (x : Vec Ideal S4096x512 .f32) (s : Vec Ideal S4096x1 .f32) (r : Fin 4096) :
    k0_pay5 (F := Ideal) x (k0_pay2 (F := Ideal)) s (ix2 r (0 : Fin 1)) = s (ix2 r (0 : Fin 1)) + psum (row x r) 512 := by
  have e : k0_pay5 (F := Ideal) x (k0_pay2 (F := Ideal)) s (ix2 r (0 : Fin 1))
      = s (ix2 r (0 : Fin 1)) + k0_pay3 (F := Ideal) x (k0_pay2 (F := Ideal)) (ix2 r (511 : Fin 512))
        + x (ix2 r (511 : Fin 512)) := by
    pointwise [k0_pay5]
  rw [e, product_triangle, add_assoc, psum_succ (row x r) 511, row_of_lt x r (by omega : 511 < 512)]
  rfl

end Entries

end Cert.Scan

end
-- ==== Proof.Scan.State.lean ====
/-
  What the kernel holds after each grid point, and its result. After point `n` the running total of row `r` is the sum of
  the row's first `512 * (n + 1)` entries and the output block's entry `(r, j)` is the sum of its first `512 * n + j`; so
  entry `(r, j)` of the result is the sum of the `j` entries of row `r` before it.
-/
module

public import proofs.«01_k».proof.Proof.Scan.Body

@[expose] public section

noncomputable section

namespace Cert.Scan

open Idealize.ShloMosaic Idealize.ShloMosaic.TcCoe Idealize.SL.Sem
open Cert.KernelIdeal Cert.KernelIdeal.Gen Cert.KernelIdeal.Value

variable (m : (ℓ : Loc nD τ sig) → Buf (Elt Ideal) ℓ) (c : Dev nD)

/-- The kernel's argument, as the launch finds it. -/
abbrev arg : Vec Ideal S4096x16384 .f32 := m ((c : Thread nD τ).loc main_arg0)

/-- The input window's block at point `t` starts at row 0 and column `512 * t`. -/
theorem in_index : ∀ t : Fin cfg0.N, win0_0.index t (0 : Fin 2) = 0 ∧ win0_0.index t (1 : Fin 2) = t.val :=
  (by decide +kernel : ∀ t : Fin grid0.N, _)

/-- Row `r` of the input block at point `n` is row `r` of the argument from column `512 * n` on. -/
theorem block_row (n : ℕ) (hn : n < cfg0.N) (r : Fin 4096) {k : ℕ} (hk : k < 512) :
    row (iblk m c 0 ⟨n, hn⟩ : Vec Ideal S4096x512 .f32) r k = row (arg m c) r (512 * n + k) := by
  have hN := lt_of_lt_of_eq hn (show cfg0.N = 32 from N_0)
  obtain ⟨e0, e1⟩ := in_index ⟨n, hn⟩
  rw [row_of_lt _ r hk, row_of_lt _ r (by omega : 512 * n + k < 16384)]
  unfold iblk
  rw [View.read_apply]
  show V m c main_arg0 _ = m ((c : Thread nD τ).loc main_arg0) _
  unfold V
  refine congrArg _ (funext fun a => Fin.ext ?_)
  match a with
  | ⟨0, _⟩ =>
    show win0_0.index ⟨n, hn⟩ (0 : Fin 2) * 4096 + 1 * r.val = r.val
    rw [e0]; omega
  | ⟨1, _⟩ =>
    show win0_0.index ⟨n, hn⟩ (1 : Fin 2) * 512 + 1 * k = 512 * n + k
    rw [e1]; dsimp only; omega

/-- The prefix sums inside the input block at point `n` continue the argument's at `512 * n`. -/
theorem block_psum (n : ℕ) (hn : n < cfg0.N) (r : Fin 4096) {j : ℕ} (hj : j ≤ 512) :
    psum (row (arg m c) r) (512 * n) + psum (row (iblk m c 0 ⟨n, hn⟩ : Vec Ideal S4096x512 .f32) r) j
      = psum (row (arg m c) r) (512 * n + j) := by
  rw [psum_add]
  exact congrArg _ (psum_congr fun k hk => block_row m c n hn r (by omega))

/-- The input block at point `n`. -/
abbrev inBlock (n : ℕ) (hn : n < cfg0.N) : Vec Ideal S4096x512 .f32 := iblk m c 0 ⟨n, hn⟩

/-- What the first point leaves: the output block, the running total and the triangle. -/
theorem first_step (hn : 0 < cfg0.N) :
    outsAt0 m c 0 hn = (k0_pay4 (F := Ideal) (inBlock m c 0 hn) (k0_pay2 (F := Ideal)) (k0_pay1 (F := Ideal)),
      k0_pay5 (F := Ideal) (inBlock m c 0 hn) (k0_pay2 (F := Ideal)) (k0_pay1 (F := Ideal)), k0_pay2 (F := Ideal)) := by
  rw [outsAt0_zero, stAt0_A m c ⟨0, hn⟩ _ (Nat.zero_mod _), out_first, total_first, triangle_first]

/-- What a later point leaves, over what the point before left. -/
theorem later_step (n : ℕ) (hn : n + 1 < cfg0.N) (T : Vec Ideal S512x512 .f32) (s : Vec Ideal S4096x1 .f32)
    (hT : (outsAt0 m c n (Nat.lt_of_succ_lt hn)).2.2 = T) (hs : (outsAt0 m c n (Nat.lt_of_succ_lt hn)).2.1 = s) :
    outsAt0 m c (n + 1) hn = (k0_pay4 (F := Ideal) (inBlock m c (n + 1) hn) T s, k0_pay5 (F := Ideal) (inBlock m c (n + 1) hn) T s, T) := by
  have hN := lt_of_lt_of_eq hn (show cfg0.N = 32 from N_0)
  have hB : ¬(n + 1) % 32 = 0 := by omega
  rw [outsAt0_succ, stAt0_B m c ⟨n + 1, hn⟩ _ hB, out_later, total_later, hT, hs]
  unfold sout0_B_1
  rfl

/-- **After point `n`**: the output block, the running total and the triangle. -/
theorem state_eq (n : ℕ) : ∀ hn : n < cfg0.N,
    (∀ (r : Fin 4096) (j : Fin 512), (outsAt0 m c n hn).1 (ix2 r j) = psum (row (arg m c) r) (512 * n + j.val))
    ∧ (∀ r : Fin 4096, (outsAt0 m c n hn).2.1 (ix2 r (0 : Fin 1)) = psum (row (arg m c) r) (512 * n + 512))
    ∧ (outsAt0 m c n hn).2.2 = k0_pay2 (F := Ideal) := by
  induction n with
  | zero =>
    intro hn
    rw [first_step]
    dsimp only
    refine ⟨fun r j => ?_, fun r => ?_, rfl⟩
    · rw [← block_psum m c 0 hn r j.isLt.le, out_entry, zero_total]
      rfl
    · rw [← block_psum m c 0 hn r le_rfl, total_entry, zero_total]
      rfl
  | succ n ih =>
    intro hn
    obtain ⟨-, iht, ihT⟩ := ih (Nat.lt_of_succ_lt hn)
    rw [later_step m c n hn _ _ ihT rfl]
    dsimp only
    refine ⟨fun r j => ?_, fun r => ?_, rfl⟩
    · rw [← block_psum m c (n + 1) hn r j.isLt.le, out_entry, iht r, Nat.mul_succ]
    · rw [← block_psum m c (n + 1) hn r le_rfl, total_entry, iht r, Nat.mul_succ]

/-- **The kernel's result at an entry**: the sum of the row's entries before it. -/
theorem kernel_entry (r : Fin 4096) (j : Fin 16384) :
    G1 m c (ix2 r j) = psum (row (arg m c) r) j.val := by
  have hr := r.isLt
  have hj := j.isLt
  have hp : pt1Of (ix2 r j) = j.val / 512 := by
    show 32 * (r.val / 4096 - 0) + 1 * (j.val / 512 - 0) = j.val / 512
    omega
  have hlt : pt1Of (ix2 r j) < cfg0.N := by
    rw [hp]; exact lt_of_lt_of_eq (by omega : j.val / 512 < 32) N_0.symm
  have hl : loc1Of (ix2 r j) = ix2 r (⟨j.val % 512, Nat.mod_lt _ (by omega)⟩ : Fin 512) := by
    funext a
    apply Fin.ext
    match a with
    | ⟨0, _⟩ => show r.val % 4096 = r.val; omega
    | ⟨1, _⟩ => rfl
  unfold G1
  rw [dif_pos hlt, ← outsAt0_sweep m c _ hlt, hl, (state_eq m c _ hlt).1, hp]
  exact congrArg _ (by dsimp only; omega)

end Cert.Scan

end
-- ==== Proof.Scan.Window.lean ====
/-
  A running sum along the rows of a matrix, as the host writes it: a sum over windows of a whole row's length, padded in
  front by one position less. At the ideal values its entry `(r, j)` is the sum of the first `j + 1` entries of row `r`.
-/
module

public import proofs.«01_k».proof.Proof.Scan.Prefix
public import Idealize.ShloMosaic.Lib.Routing.Ops

@[expose] public section

noncomputable section

namespace Cert.Scan

open Idealize.ShloMosaic

/-- Adding the terms of a list one after the other onto `a` adds their sum. -/
theorem foldl_add_eq {ι : Type} (g : ι → EReal) (l : List ι) (a : EReal) :
    l.foldl (fun r n => r + g n) a = a + (l.map g).sum := by
  induction l generalizing a with
  | nil => simp
  | cons b l ih => rw [List.foldl_cons, ih, List.map_cons, List.sum_cons, add_assoc]

/-- **The running sum at an entry.** -/
theorem reduceWindowAdd_apply {R w : ℕ} {u : Shape} (x : FVec Ideal ⟨2, ![R, w + 1]⟩ .f32) (init : u.Idx → Ideal .f32)
    (h : (⟨2, ![R, w + 1]⟩ : Shape).ReduceWindows (![1, w + 1] : Fin 2 → Nat) ![1, 1] ![0, w] ![0, 0] ⟨2, ![R, w + 1]⟩)
    (hu : 0 < u.numel) (hinit : init (Shape.Idx.first hu) = 0) (r : Fin R) (j : Fin (w + 1)) :
    Host.reduceWindowAdd ![1, w + 1] ![1, 1] ![0, w] ![0, 0] x init h hu (ix2 r j) = psum (row x r) (j.val + 1) := by
  have hj := j.isLt
  have hr := r.isLt
  show Host.reduceWindow (s := ⟨2, ![R, w + 1]⟩) (t := ⟨2, ![R, w + 1]⟩) (u := u) (fun a b : EReal => a + b) ![1, w + 1] ![1, 1]
    ![0, w] ![0, 0] x (fun _ => init (Shape.Idx.first hu)) h hu (ix2 r j) = _
  rw [hinit]
  unfold Host.reduceWindow
  dsimp only
  refine (foldl_add_eq _ _ _).trans ?_
  rw [zero_add, ← sum_window_psum (row x r) (by omega : j.val ≤ w)]
  have hsum : ∀ g : ℕ → EReal, ∑ n ∈ Finset.range (w + 1), g n
      = ((List.finRange (⟨2, ![1, w + 1]⟩ : Shape).numel).map fun n => g n.val).sum := fun g => by
    have e : ∀ M : ℕ, M = w + 1 → ∑ n ∈ Finset.range (w + 1), g n = ((List.finRange M).map fun n => g n.val).sum := by
      rintro M rfl
      rw [← Fin.sum_univ_eq_sum_range, Fin.sum_univ_def]
    exact e _ (Routing.numel2 _)
  rw [hsum]
  refine congrArg List.sum (List.map_congr_left fun n _ => ?_)
  have hw0 : ((Routing.shape2 1 (w + 1)).rowMajor.symm n 0).val = 0 := by rw [Routing.symm2]; rfl
  have hw1 : ((Routing.shape2 1 (w + 1)).rowMajor.symm n 1).val = n.val := by rw [Routing.symm2]; rfl
  have hn : n.val < w + 1 := lt_of_lt_of_eq n.isLt (Routing.numel2 _)
  -- the position that the window's entry `n` has in the padded row
  have hp0 : r.val * 1 + ((Routing.shape2 1 (w + 1)).rowMajor.symm n 0).val = r.val := by rw [hw0]; omega
  have hp1 : j.val * 1 + ((Routing.shape2 1 (w + 1)).rowMajor.symm n 1).val = j.val + n.val := by rw [hw1]; omega
  by_cases hle : w ≤ j.val + n.val
  · rw [if_pos hle, row_of_lt x r (by omega : j.val + n.val - w < w + 1)]
    refine (dif_pos fun a => ?_).trans (congrArg x (funext fun a => Fin.ext ?_))
    · match a with
      | ⟨0, _⟩ =>
        show 0 ≤ r.val * 1 + ((Routing.shape2 1 (w + 1)).rowMajor.symm n 0).val
          ∧ r.val * 1 + ((Routing.shape2 1 (w + 1)).rowMajor.symm n 0).val - 0 < R
        rw [hp0]; omega
      | ⟨1, _⟩ =>
        show w ≤ j.val * 1 + ((Routing.shape2 1 (w + 1)).rowMajor.symm n 1).val
          ∧ j.val * 1 + ((Routing.shape2 1 (w + 1)).rowMajor.symm n 1).val - w < w + 1
        rw [hp1]; omega
    · match a with
      | ⟨0, _⟩ =>
        show r.val * 1 + ((Routing.shape2 1 (w + 1)).rowMajor.symm n 0).val - 0 = r.val
        rw [hp0]; omega
      | ⟨1, _⟩ =>
        show j.val * 1 + ((Routing.shape2 1 (w + 1)).rowMajor.symm n 1).val - w = j.val + n.val - w
        rw [hp1]
  · rw [if_neg hle]
    refine dif_neg fun hin => hle ?_
    have h1 := (hin 1).1
    change w ≤ j.val * 1 + ((Routing.shape2 1 (w + 1)).rowMajor.symm n 1).val at h1
    omega

end Cert.Scan

end
-- ==== Proof.Scan.RefValue.lean ====
/-
  The reference's result entry by entry: a column of zeros set in front of the running sum of the rows, whose last column
  is dropped. Entry `(r, j)` is the sum of the `j` entries of row `r` before it.
-/
module

public import proofs.«01_k».proof.Proof.Gen.ReferenceIdeal.Run
public import proofs.«01_k».proof.Proof.Scan.Window

@[expose] public section

noncomputable section

namespace Cert.Scan

open Idealize.ShloMosaic Cert.ReferenceIdeal Cert.ReferenceIdeal.Gen

/-- The reference's running sum of the rows of `x`. -/
def running (x : FVec Ideal S4096x16384 .f32) : FVec Ideal S4096x16384 .f32 :=
  Host.reduceWindowAdd ![1, 16384] ![1, 1] ![0, 16383] ![0, 0] x
    (broadcastInDim S_ ![] bcast_S_S_ (constant S_ .f32 0x00000000#32))
    reduceWindows_S4096x16384_S4096x16384_w1s1p0_0_w16384s1p16383_0 h_S_

/-- It counts the entry itself. -/
theorem running_entry (x : FVec Ideal S4096x16384 .f32) (r : Fin 4096) (j : Fin 16384) :
    running x (ix2 r j) = psum (row x r) (j.val + 1) :=
  reduceWindowAdd_apply (R := 4096) (w := 16383) x _ _ _ (by pointwise []) r j

/-- The reference's result: zeros, then all columns of the running sum but the last. -/
def reference (x : FVec Ideal S4096x16384 .f32) : FVec Ideal S4096x16384 .f32 :=
  concatenate S4096x16384 1
    [⟨S4096x1, broadcastInDim S4096x1 ![] bcast_S_S4096x1 (constant S_ .f32 0x00000000#32)⟩,
      ⟨S4096x16383, extractStridedSlice S4096x16383 ![0, 0] (running x) slices_S4096x16384_S4096x16383_0_0⟩]
    concatenates_S4096x1_S4096x16383_S4096x16384_d1

/-- **The reference's result at an entry.** -/
theorem reference_entry (x : FVec Ideal S4096x16384 .f32) (r : Fin 4096) (j : Fin 16384) :
    reference x (ix2 r j) = psum (row x r) j.val := by
  have hj := j.isLt
  pointwise [reference]
  by_cases h : j.val < 1
  · rw [dif_pos h, show j.val = 0 by omega, psum_zero]
  · rw [dif_neg h, running_entry]
    exact congrArg _ (by dsimp only; omega)

end Cert.Scan

end
-- ==== Proof.Scan.Equation.lean ====
/-
  The two programs' results are one function of the argument: at every entry both are the sum of the row's entries before
  it.
-/
module

public import proofs.«01_k».proof.Proof.Scan.State
public import proofs.«01_k».proof.Proof.Scan.RefValue

@[expose] public section

noncomputable section

namespace Cert.Scan

open Idealize.ShloMosaic

/-- **The equation**: the reference's result on the kernel's argument is the kernel's result. -/
theorem reference_eq_kernel (m : (ℓ : Loc Cert.KernelIdeal.nD Cert.KernelIdeal.τ Cert.KernelIdeal.sig) → Buf (Elt Ideal) ℓ)
    (c : Dev Cert.KernelIdeal.nD) : reference (arg m c) = Cert.KernelIdeal.Value.G1 m c := by
  funext i
  rw [eq_ix2 i]
  exact (reference_entry (arg m c) _ _).trans (kernel_entry m c _ _).symm

end Cert.Scan

end
-- ==== Proof.lean ====
/-
  The proof of `Cert.Claim`: the kernel's frames by their generated runs, the reference's by its run weakened, its counters
  zero because it declares no semaphore, and the value claim by the two generated runs set side by side on memories that
  agree on the argument. The equation of their results is `Cert.Scan.reference_eq_kernel`.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Scan.Equation

@[expose] public section

noncomputable section

namespace Cert.Proof

open Idealize.ShloMosaic Idealize.SL.Sem

/-- The reference leaves its argument unchanged and every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the ideal values the kernel and the reference, run on memories that agree on the argument, end with the same
    result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  exact (congrArg Cert.Scan.reference (hagree c)).trans (Cert.Scan.reference_eq_kernel m c)

/-- All the claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
